-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x256 : Shape := ⟨2, ![10000, 256]⟩
abbrev S2x160000 : Shape := ⟨2, ![2, 160000]⟩
abbrev S256x256 : Shape := ⟨2, ![256, 256]⟩
abbrev S256 : Shape := ⟨1, ![256]⟩
abbrev S256x16 : Shape := ⟨2, ![256, 16]⟩
abbrev S16 : Shape := ⟨1, ![16]⟩
abbrev S1x256 : Shape := ⟨2, ![1, 256]⟩
abbrev S1x16 : Shape := ⟨2, ![1, 16]⟩
abbrev S10000x16 : Shape := ⟨2, ![10000, 16]⟩
abbrev S5000x256 : Shape := ⟨2, ![5000, 256]⟩
abbrev S5000x16 : Shape := ⟨2, ![5000, 16]⟩

abbrev nBuf : Space → Nat
  | .hbm => 9
  | .vmem => 8
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S256x256, .f32⟩
  | .hbm, ⟨3, _⟩ => ⟨S256, .f32⟩
  | .hbm, ⟨4, _⟩ => ⟨S256x16, .f32⟩
  | .hbm, ⟨5, _⟩ => ⟨S16, .f32⟩
  | .hbm, ⟨6, _⟩ => ⟨S1x256, .f32⟩
  | .hbm, ⟨7, _⟩ => ⟨S1x16, .f32⟩
  | .hbm, ⟨8, _⟩ => ⟨S10000x16, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S1x256, .f32⟩
  | .local _ .vmem, ⟨4, _⟩ => ⟨S256x16, .f32⟩
  | .local _ .vmem, ⟨5, _⟩ => ⟨S1x16, .f32⟩
  | .local _ .vmem, ⟨6, _⟩ => ⟨S5000x16, .f32⟩
  | .local _ .vmem, ⟨7, _⟩ => ⟨S5000x16, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S10000x256 : Shape := ⟨2, ![10000, 256]⟩
abbrev S2x160000 : Shape := ⟨2, ![2, 160000]⟩
abbrev S256x256 : Shape := ⟨2, ![256, 256]⟩
abbrev S256 : Shape := ⟨1, ![256]⟩
abbrev S256x16 : Shape := ⟨2, ![256, 16]⟩
abbrev S16 : Shape := ⟨1, ![16]⟩
abbrev S1x256 : Shape := ⟨2, ![1, 256]⟩
abbrev S_ : Shape := ⟨0, ![]⟩
abbrev S10000x16 : Shape := ⟨2, ![10000, 16]⟩
abbrev S1x16 : Shape := ⟨2, ![1, 16]⟩

abbrev nBuf : Space → Nat
  | .hbm => 17
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S256x256, .f32⟩
  | .hbm, ⟨3, _⟩ => ⟨S256, .f32⟩
  | .hbm, ⟨4, _⟩ => ⟨S256x16, .f32⟩
  | .hbm, ⟨5, _⟩ => ⟨S16, .f32⟩
  | .hbm, ⟨6, _⟩ => ⟨S10000x256, .f32⟩
  | .hbm, ⟨7, _⟩ => ⟨S1x256, .f32⟩
  | .hbm, ⟨8, _⟩ => ⟨S10000x256, .f32⟩
  | .hbm, ⟨9, _⟩ => ⟨S10000x256, .f32⟩
  | .hbm, ⟨10, _⟩ => ⟨S_, .f32⟩
  | .hbm, ⟨11, _⟩ => ⟨S10000x256, .f32⟩
  | .hbm, ⟨12, _⟩ => ⟨S10000x256, .f32⟩
  | .hbm, ⟨13, _⟩ => ⟨S10000x16, .f32⟩
  | .hbm, ⟨14, _⟩ => ⟨S1x16, .f32⟩
  | .hbm, ⟨15, _⟩ => ⟨S10000x16, .f32⟩
  | .hbm, ⟨16, _⟩ => ⟨S10000x16, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Proof.Mlp.lean ====
/-
  The function that both programs compute, over the extended reals: a two-layer perceptron, row by row.
  The reference's composed host operations are this function.
-/
module

public import proofs.«01_k».proof.Proof.Gen.ReferenceIdeal.Run
public import Idealize.ShloMosaic.Lib.Pipeline.ValueKit

@[expose] public section

set_option maxRecDepth 16384

noncomputable section

namespace Cert.Proof.Mlp

open Idealize.ShloMosaic Idealize.ShloMosaic.TcCoe Idealize.SL.Sem
open Cert.ReferenceIdeal Cert.ReferenceIdeal.Gen

/-- Hidden unit `k` of node `r`: the rectified affine image of the node's features. -/
def hidden (X : FVec Ideal S10000x256 .f32) (W1 : FVec Ideal S256x256 .f32) (b1 : FVec Ideal S256 .f32)
    (r : Fin 10000) (k : Fin 256) : EReal :=
  max ((∑ j : Fin 256, X (ix2 r j) * W1 (ix2 j k)) + b1 (ix1 k)) 0

/-- The filtration values: entry `(r, f)` is the affine image of node `r`'s hidden units under the second layer. -/
def filtration (X : FVec Ideal S10000x256 .f32) (W1 : FVec Ideal S256x256 .f32) (b1 : FVec Ideal S256 .f32)
    (W2 : FVec Ideal S256x16 .f32) (b2 : FVec Ideal S16 .f32) : FVec Ideal S10000x16 .f32 := fun i =>
  (∑ k : Fin 256, hidden X W1 b1 (i 0) k * W2 (ix2 k (i 1))) + b2 (ix1 (i 1))

/-- The reference's composed operations over its five float arguments are the filtration values. -/
theorem reference_eq (X : FVec Ideal S10000x256 .f32) (W1 : FVec Ideal S256x256 .f32) (b1 : FVec Ideal S256 .f32)
    (W2 : FVec Ideal S256x16 .f32) (b2 : FVec Ideal S16 .f32) :
    (addf (Host.dotGeneral dot_S10000x256_S256x16_S10000x16_1_0_0_1_n_n none
        (maximumf (addf (Host.dotGeneral dot_S10000x256_S256x256_S10000x256_1_0_0_1_n_n none X W1)
            (broadcastInDim S10000x256 ![0, 1] bcast_S1x256_S10000x256_0_1 (broadcastInDim S1x256 ![1] bcast_S256_S1x256_1 b1)))
          (broadcastInDim S10000x256 ![] bcast_S_S10000x256 (constant S_ .f32 0x00000000#32))) W2)
        (broadcastInDim S10000x16 ![0, 1] bcast_S1x16_S10000x16_0_1 (broadcastInDim S1x16 ![1] bcast_S16_S1x16_1 b2))
      : FVec Ideal S10000x16 .f32) = filtration X W1 b1 W2 b2 := by
  funext i
  pointwise [filtration, hidden]

end Cert.Proof.Mlp

end
-- ==== Proof.Rows.lean ====
/-
  The kernel's result array. One grid point's stored block is the filtration values of its 5000 rows; the two
  points' blocks tile the array, so the array is the filtration values of all rows.
-/
module

public import proofs.«01_k».proof.Proof.Mlp
public import proofs.«01_k».proof.Proof.Gen.KernelIdeal.Value
public import Idealize.ShloMosaic.Lib.Pipeline.ValueKit
public import Idealize.ShloMosaic.Lib.Claim

@[expose] public section

set_option maxRecDepth 16384

noncomputable section

namespace Cert.Proof.Rows

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Where each window's block lies at point `t`: the node rows and the result move with the point, the weights and
    the biases stay. -/
theorem places : ∀ t : Fin cfg0.N, win0_0.index t = ![t.val, 0] ∧ win0_1.index t = ![0, 0]
    ∧ win0_2.index t = ![0, 0] ∧ win0_3.index t = ![0, 0] ∧ win0_4.index t = ![0, 0]
    ∧ win0_5.index t = ![t.val, 0] :=
  (by decide +kernel : ∀ t : Fin grid0.N, _)

/-- The filtration values of device `c`'s arguments. -/
abbrev values (c : Dev nD) : FVec Ideal S10000x16 .f32 :=
  Mlp.filtration (m ((c : Thread nD τ).loc main_arg0)) (m ((c : Thread nD τ).loc main_arg2))
    (m ((c : Thread nD τ).loc main_arg3)) (m ((c : Thread nD τ).loc main_arg4)) (m ((c : Thread nD τ).loc main_arg5))

/-- What point `t` stores at index `y` of its block is the filtration value at the place of `y` in the array. -/
theorem stored (c : Dev nD) (t : Fin cfg0.N) (y : S5000x16.Idx) :
    k0_pay1 (iblk m c 0 t) (iblk m c 1 t) (iblk m c 2 t) (iblk m c 3 t) (iblk m c 4 t) y
      = values m c (((cfg0.win 5).blk t).view.emb y) := by
  pointwise [k0_pay1, values, Mlp.filtration, Mlp.hidden]
  blk_point [iblk, V, places t]

/-- The result array after the run holds the filtration values of every node. -/
theorem final (c : Dev nD) : (dats m 0 c).arrAt 5 (cfgs 0).N = values m c := by
  refine (dats m 0 c).arrAt_eq_of_covers 5 _ (by decide +kernel) fun t _ y => ?_
  blk_simp
  rw [after0_5]; frame_out
  exact stored m c t y

end Cert.Proof.Rows

end
-- ==== Proof.lean ====
/-
  The five claims about the filtration MLP: the three frames and the counters at zero, the idealized kernel as the
  kernel's own text, and the kernel's result equal to the reference's over the extended reals.
  `Proof/Mlp.lean` has the common function and the reference, `Proof/Rows.lean` the kernel's result array.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Mlp
public import proofs.«01_k».proof.Proof.Rows
public import Idealize.ShloMosaic.Lib.Claim
public import Idealize.ShloMosaic.Lib.Quiescent

@[expose] public section

noncomputable section

namespace Cert.Proof

open Idealize.ShloMosaic Idealize.SL.Sem

/-- The reference runs, leaves its arguments as they were, and declares no semaphore whose counter could move. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From memories that agree on the six arguments, both programs end with the filtration values of those arguments,
    the kernel by its tiled blocks (`Rows.final`) and the reference by its composed operations (`Mlp.reference_eq`). -/
theorem values_agree : Cert.algebraic_KernelIdeal_ReferenceIdeal := by
  intro m ρ m' ρ' _ hagree
  refine ⟨fun c => Rows.values m c, ?_, ?_⟩
  · exact (θ_run Cert.KernelIdeal.defs _ _).mono (fun _ h c => ⟨(h c).1.trans (Rows.final m c), (h c).2⟩)
      (Cert.KernelIdeal.Value.run_blocks (F := Ideal) m ρ)
  · refine (θ_run Cert.ReferenceIdeal.defs _ _).mono (fun _ h c => ⟨((h c).1.trans ?_), (h c).2⟩)
      (Cert.ReferenceIdeal.Value.run (F := Ideal) m' ρ')
    obtain ⟨h0, -, h2, h3, h4, h5⟩ := hagree c
    rw [h0, h2, h3, h4, h5]
    exact Mlp.reference_eq _ _ _ _ _

/-- All five claims together. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    reference_frame,
    trivial,
    values_agree⟩

end Cert.Proof

end
